-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x768x32x32 : Shape := ⟨4, ![1, 768, 32, 32]⟩
abbrev S4x256x768x3x3 : Shape := ⟨5, ![4, 256, 768, 3, 3]⟩
abbrev S4x256 : Shape := ⟨2, ![4, 256]⟩
abbrev S4x1x256x1x1 : Shape := ⟨5, ![4, 1, 256, 1, 1]⟩
abbrev S4x1 : Shape := ⟨2, ![4, 1]⟩
abbrev S768x1024 : Shape := ⟨2, ![768, 1024]⟩
abbrev S1024x768 : Shape := ⟨2, ![1024, 768]⟩
abbrev S1024x768x9 : Shape := ⟨3, ![1024, 768, 9]⟩
abbrev S1024x9x768 : Shape := ⟨3, ![1024, 9, 768]⟩
abbrev S1024x6912 : Shape := ⟨2, ![1024, 6912]⟩
abbrev S1x1024 : Shape := ⟨2, ![1, 1024]⟩
abbrev S4x4 : Shape := ⟨2, ![4, 4]⟩
abbrev S_ : Shape := ⟨0, ![]⟩
abbrev S4x1x4 : Shape := ⟨3, ![4, 1, 4]⟩
abbrev S4x256x1 : Shape := ⟨3, ![4, 256, 1]⟩
abbrev S4x256x4 : Shape := ⟨3, ![4, 256, 4]⟩
abbrev S1024x4 : Shape := ⟨2, ![1024, 4]⟩
abbrev S1x4 : Shape := ⟨2, ![1, 4]⟩
abbrev S1024x5 : Shape := ⟨2, ![1024, 5]⟩
abbrev S128x6912 : Shape := ⟨2, ![128, 6912]⟩
abbrev S1x128 : Shape := ⟨2, ![1, 128]⟩
abbrev S128x4 : Shape := ⟨2, ![128, 4]⟩
abbrev S1024 : Shape := ⟨1, ![1024]⟩
abbrev S1024x1 : Shape := ⟨2, ![1024, 1]⟩
abbrev S33x768 : Shape := ⟨2, ![33, 768]⟩
abbrev S991x768 : Shape := ⟨2, ![991, 768]⟩
abbrev S32x768 : Shape := ⟨2, ![32, 768]⟩
abbrev S992x768 : Shape := ⟨2, ![992, 768]⟩
abbrev S31x768 : Shape := ⟨2, ![31, 768]⟩
abbrev S993x768 : Shape := ⟨2, ![993, 768]⟩
abbrev S1x768 : Shape := ⟨2, ![1, 768]⟩
abbrev S1023x768 : Shape := ⟨2, ![1023, 768]⟩
abbrev S1024x128 : Shape := ⟨2, ![1024, 128]⟩
abbrev S5x1024 : Shape := ⟨2, ![5, 1024]⟩
abbrev S1x5x32x32 : Shape := ⟨4, ![1, 5, 32, 32]⟩

abbrev nBuf : Space → Nat
  | .hbm => 28
  | .vmem => 11
  | .smem => 0
  | _ => 0

abbrev bufTy : (tb : Table) → Fin (tcTables nBuf tb) → BufTy
  | .hbm, ⟨0, _⟩ => ⟨S1x768x32x32, .f32⟩
  | .hbm, ⟨1, _⟩ => ⟨S4x256x768x3x3, .f32⟩
  | .hbm, ⟨2, _⟩ => ⟨S4x256, .f32⟩
  | .hbm, ⟨3, _⟩ => ⟨S4x1x256x1x1, .f32⟩
  | .hbm, ⟨4, _⟩ => ⟨S4x1, .f32⟩
  | .hbm, ⟨5, _⟩ => ⟨S768x1024, .f32⟩
  | .hbm, ⟨6, _⟩ => ⟨S1024x768, .f32⟩
  | .hbm, ⟨7, _⟩ => ⟨S1024x768x9, .f32⟩
  | .hbm, ⟨8, _⟩ => ⟨S1024x9x768, .f32⟩
  | .hbm, ⟨9, _⟩ => ⟨S1024x6912, .f32⟩
  | .hbm, ⟨10, _⟩ => ⟨S1x1024, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S4x1x4, .f32⟩
  | .hbm, ⟨19, _⟩ => ⟨S4x256x1, .f32⟩
  | .hbm, ⟨20, _⟩ => ⟨S4x256x4, .f32⟩
  | .hbm, ⟨21, _⟩ => ⟨S4x256x4, .f32⟩
  | .hbm, ⟨22, _⟩ => ⟨S4x256x4, .f32⟩
  | .hbm, ⟨23, _⟩ => ⟨S1024x4, .f32⟩
  | .hbm, ⟨24, _⟩ => ⟨S1x4, .f32⟩
  | .hbm, ⟨25, _⟩ => ⟨S1024x5, .f32⟩
  | .hbm, ⟨26, _⟩ => ⟨S5x1024, .f32⟩
  | .hbm, ⟨27, _⟩ => ⟨S1x5x32x32, .f32⟩
  | .local _ .vmem, ⟨0, _⟩ => ⟨S1024x768, .f32⟩
  | .local _ .vmem, ⟨1, _⟩ => ⟨S128x6912, .f32⟩
  | .local _ .vmem, ⟨2, _⟩ => ⟨S128x6912, .f32⟩
  | .local _ .vmem, ⟨3, _⟩ => ⟨S1x128, .f32⟩
  | .local _ .vmem, ⟨4, _⟩ => ⟨S1x128, .f32⟩
  | .local _ .vmem, ⟨5, _⟩ => ⟨S128x4, .f32⟩
  | .local _ .vmem, ⟨6, _⟩ => ⟨S128x4, .f32⟩
  | .local _ .vmem, ⟨7, _⟩ => ⟨S1x4, .f32⟩
  | .local _ .vmem, ⟨8, _⟩ => ⟨S1024x5, .f32⟩
  | .local _ .vmem, ⟨9, _⟩ => ⟨S1024x6912, .f32⟩
  | .local _ .vmem, ⟨10, _⟩ => ⟨S1024x4, .f32⟩
  | _, _ => ⟨S1x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond4 (i : grid0.Coords) : BitVec 1 :=
  let arg0 : BitVec 32 := BitVec.ofNat 32 (i 0).val
  let c7_i32 : BitVec 32 := 7#32
  let v22 : BitVec 1 := Scalar.cmpi .eq arg0 c7_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x6912 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x5 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== ReferenceIdeal.lean ====
abbrev S1x768x32x32 : Shape := ⟨4, ![1, 768, 32, 32]⟩
abbrev S4x256x768x3x3 : Shape := ⟨5, ![4, 256, 768, 3, 3]⟩
abbrev S4x256 : Shape := ⟨2, ![4, 256]⟩
abbrev S4x1x256x1x1 : Shape := ⟨5, ![4, 1, 256, 1, 1]⟩
abbrev S4x1 : Shape := ⟨2, ![4, 1]⟩
abbrev S_ : Shape := ⟨0, ![]⟩
abbrev S1x32x32 : Shape := ⟨3, ![1, 32, 32]⟩
abbrev S1x1x32x32 : Shape := ⟨4, ![1, 1, 32, 32]⟩
abbrev S768x32x32 : Shape := ⟨3, ![768, 32, 32]⟩
abbrev S768x34x34 : Shape := ⟨3, ![768, 34, 34]⟩
abbrev S4x256x32x32 : Shape := ⟨4, ![4, 256, 32, 32]⟩
abbrev S4x256x768x1x1 : Shape := ⟨5, ![4, 256, 768, 1, 1]⟩
abbrev S4x256x768 : Shape := ⟨3, ![4, 256, 768]⟩
abbrev S4x256x1x1 : Shape := ⟨4, ![4, 256, 1, 1]⟩
abbrev S4x32x32 : Shape := ⟨3, ![4, 32, 32]⟩
abbrev S4x1x1 : Shape := ⟨3, ![4, 1, 1]⟩
abbrev S4x1x32x32 : Shape := ⟨4, ![4, 1, 32, 32]⟩
abbrev S1x4x32x32 : Shape := ⟨4, ![1, 4, 32, 32]⟩
abbrev S1x5x32x32 : Shape := ⟨4, ![1, 5, 32, 32]⟩

abbrev nBuf : Space → Nat
  | .hbm => 110
  | .vmem => 0
  | .smem => 0
  | _ => 0

abbrev bufTy : (tb : Table) → Fin (tcTables nBuf tb) → BufTy
  | .hbm, ⟨0, _⟩ => ⟨S1x768x32x32, .f32⟩
  | .hbm, ⟨1, _⟩ => ⟨S4x256x768x3x3, .f32⟩
  | .hbm, ⟨2, _⟩ => ⟨S4x256, .f32⟩
  | .hbm, ⟨3, _⟩ => ⟨S4x1x256x1x1, .f32⟩
  | .hbm, ⟨4, _⟩ => ⟨S4x1, .f32⟩
  | .hbm, ⟨5, _⟩ => ⟨S1x768x32x32, .f32⟩
  | .hbm, ⟨6, _⟩ => ⟨S_, .f32⟩
  | .hbm, ⟨7, _⟩ => ⟨S1x32x32, .f32⟩
  | .hbm, ⟨8, _⟩ => ⟨S1x1x32x32, .f32⟩
  | .hbm, ⟨9, _⟩ => ⟨S1x1x32x32, .f32⟩
  | .hbm, ⟨10, _⟩ => ⟨S_, .f32⟩
  | .hbm, ⟨11, _⟩ => ⟨S1x1x32x32, .f32⟩
  | .hbm, ⟨12, _⟩ => ⟨S1x1x32x32, .f32⟩
  | .hbm, ⟨13, _⟩ => ⟨S1x768x32x32, .f32⟩
  | .hbm, ⟨14, _⟩ => ⟨S1x768x32x32, .f32⟩
  | .hbm, ⟨15, _⟩ => ⟨S768x32x32, .f32⟩
  | .hbm, ⟨16, _⟩ => ⟨S_, .i32⟩
  | .hbm, ⟨17, _⟩ => ⟨S_, .f32⟩
  | .hbm, ⟨18, _⟩ => ⟨S768x34x34, .f32⟩
  | .hbm, ⟨19, _⟩ => ⟨S_, .f32⟩
  | .hbm, ⟨20, _⟩ => ⟨S4x256x32x32, .f32⟩
  | .hbm, ⟨21, _⟩ => ⟨S4x256x768x1x1, .f32⟩
  | .hbm, ⟨22, _⟩ => ⟨S4x256x768, .f32⟩
  | .hbm, ⟨23, _⟩ => ⟨S768x32x32, .f32⟩
  | .hbm, ⟨24, _⟩ => ⟨S4x256x32x32, .f32⟩
  | .hbm, ⟨25, _⟩ => ⟨S4x256x32x32, .f32⟩
  | .hbm, ⟨26, _⟩ => ⟨S4x256x768x1x1, .f32⟩
  | .hbm, ⟨27, _⟩ => ⟨S4x256x768, .f32⟩
  | .hbm, ⟨28, _⟩ => ⟨S768x32x32, .f32⟩
  | .hbm, ⟨29, _⟩ => ⟨S4x256x32x32, .f32⟩
  | .hbm, ⟨30, _⟩ => ⟨S4x256x32x32, .f32⟩
  | .hbm, ⟨31, _⟩ => ⟨S4x256x768x1x1, .f32⟩
  | .hbm, ⟨32, _⟩ => ⟨S4x256x768, .f32⟩
  | .hbm, ⟨33, _⟩ => ⟨S768x32x32, .f32⟩
  | .hbm, ⟨34, _⟩ => ⟨S4x256x32x32, .f32⟩
  | .hbm, ⟨35, _⟩ => ⟨S4x256x32x32, .f32⟩
  | .hbm, ⟨36, _⟩ => ⟨S4x256x768x1x1, .f32⟩
  | .hbm, ⟨37, _⟩ => ⟨S4x256x768, .f32⟩
  | .hbm, ⟨38, _⟩ => ⟨S768x32x32, .f32⟩
  | .hbm, ⟨39, _⟩ => ⟨S4x256x32x32, .f32⟩
  | .hbm, ⟨40, _⟩ => ⟨S4x256x32x32, .f32⟩
  | .hbm, ⟨41, _⟩ => ⟨S4x256x768x1x1, .f32⟩
  | .hbm, ⟨42, _⟩ => ⟨S4x256x768, .f32⟩
  | .hbm, ⟨43, _⟩ => ⟨S768x32x32, .f32⟩
  | .hbm, ⟨44, _⟩ => ⟨S4x256x32x32, .f32⟩
  | .hbm, ⟨45, _⟩ => ⟨S4x256x32x32, .f32⟩
  | .hbm, ⟨46, _⟩ => ⟨S4x256x768x1x1, .f32⟩
  | .hbm, ⟨47, _⟩ => ⟨S4x256x768, .f32⟩
  | .hbm, ⟨48, _⟩ => ⟨S768x32x32, .f32⟩
  | .hbm, ⟨49, _⟩ => ⟨S4x256x32x32, .f32⟩
  | .hbm, ⟨50, _⟩ => ⟨S4x256x32x32, .f32⟩
  | .hbm, ⟨51, _⟩ => ⟨S4x256x768x1x1, .f32⟩
  | .hbm, ⟨52, _⟩ => ⟨S4x256x768, .f32⟩
  | .hbm, ⟨53, _⟩ => ⟨S768x32x32, .f32⟩
  | .hbm, ⟨54, _⟩ => ⟨S4x256x32x32, .f32⟩
  | .hbm, ⟨55, _⟩ => ⟨S4x256x32x32, .f32⟩
  | .hbm, ⟨56, _⟩ => ⟨S4x256x768x1x1, .f32⟩
  | .hbm, ⟨57, _⟩ => ⟨S4x256x768, .f32⟩
  | .hbm, ⟨58, _⟩ => ⟨S768x32x32, .f32⟩
  | .hbm, ⟨59, _⟩ => ⟨S4x256x32x32, .f32⟩
  | .hbm, ⟨60, _⟩ => ⟨S4x256x32x32, .f32⟩
  | .hbm, ⟨61, _⟩ => ⟨S4x256x768x1x1, .f32⟩
  | .hbm, ⟨62, _⟩ => ⟨S4x256x768, .f32⟩
  | .hbm, ⟨63, _⟩ => ⟨S768x32x32, .f32⟩
  | .hbm, ⟨64, _⟩ => ⟨S4x256x32x32, .f32⟩
  | .hbm, ⟨65, _⟩ => ⟨S4x256x32x32, .f32⟩
  | .hbm, ⟨66, _⟩ => ⟨S4x256x1x1, .f32⟩
  | .hbm, ⟨67, _⟩ => ⟨S4x256x32x32, .f32⟩
  | .hbm, ⟨68, _⟩ => ⟨S4x256x32x32, .f32⟩
  | .hbm, ⟨69, _⟩ => ⟨S_, .f32⟩
  | .hbm, ⟨70, _⟩ => ⟨S4x256x32x32, .f32⟩
  | .hbm, ⟨71, _⟩ => ⟨S4x256x32x32, .f32⟩
  | .hbm, ⟨72, _⟩ => ⟨S4x256, .f32⟩
  | .hbm, ⟨73, _⟩ => ⟨S4x32x32, .f32⟩
  | .hbm, ⟨74, _⟩ => ⟨S4x1x1, .f32⟩
  | .hbm, ⟨75, _⟩ => ⟨S4x32x32, .f32⟩
  | .hbm, ⟨76, _⟩ => ⟨S4x32x32, .f32⟩
  | .hbm, ⟨77, _⟩ => ⟨S4x1x32x32, .f32⟩
  | .hbm, ⟨78, _⟩ => ⟨S4x1x32x32, .f32⟩
  | .hbm, ⟨79, _⟩ => ⟨S4x1x32x32, .f32⟩
  | .hbm, ⟨80, _⟩ => ⟨S_, .f32⟩
  | .hbm, ⟨81, _⟩ => ⟨S4x1x32x32, .f32⟩
  | .hbm, ⟨82, _⟩ => ⟨S4x1x32x32, .f32⟩
  | .hbm, ⟨83, _⟩ => ⟨S_, .f32⟩
  | .hbm, ⟨84, _⟩ => ⟨S4x1x32x32, .f32⟩
  | .hbm, ⟨85, _⟩ => ⟨S4x1x32x32, .f32⟩
  | .hbm, ⟨86, _⟩ => ⟨S_, .f32⟩
  | .hbm, ⟨87, _⟩ => ⟨S4x1x32x32, .f32⟩
  | .hbm, ⟨88, _⟩ => ⟨S4x1x32x32, .i1⟩
  | .hbm, ⟨89, _⟩ => ⟨S4x1x32x32, .f32⟩
  | .hbm, ⟨90, _⟩ => ⟨S1x4x32x32, .f32⟩
  | .hbm, ⟨91, _⟩ => ⟨S1x4x32x32, .f32⟩
  | .hbm, ⟨92, _⟩ => ⟨S_, .f32⟩
  | .hbm, ⟨93, _⟩ => ⟨S1x32x32, .f32⟩
  | .hbm, ⟨94, _⟩ => ⟨S1x1x32x32, .f32⟩
  | .hbm, ⟨95, _⟩ => ⟨S_, .f32⟩
  | .hbm, ⟨96, _⟩ => ⟨S1x32x32, .f32⟩
  | .hbm, ⟨97, _⟩ => ⟨S1x1x32x32, .f32⟩
  | .hbm, ⟨98, _⟩ => ⟨S_, .f32⟩
  | .hbm, ⟨99, _⟩ => ⟨S1x1x32x32, .f32⟩
  | .hbm, ⟨100, _⟩ => ⟨S1x1x32x32, .i1⟩
  | .hbm, ⟨101, _⟩ => ⟨S1x1x32x32, .f32⟩
  | .hbm, ⟨102, _⟩ => ⟨S_, .f32⟩
  | .hbm, ⟨103, _⟩ => ⟨S1x1x32x32, .f32⟩
  | .hbm, ⟨104, _⟩ => ⟨S1x1x32x32, .f32⟩
  | .hbm, ⟨105, _⟩ => ⟨S_, .f32⟩
  | .hbm, ⟨106, _⟩ => ⟨S1x1x32x32, .f32⟩
  | .hbm, ⟨107, _⟩ => ⟨S1x1x32x32, .f32⟩
  | .hbm, ⟨108, _⟩ => ⟨S1x1x32x32, .f32⟩
  | .hbm, ⟨109, _⟩ => ⟨S1x5x32x32, .f32⟩
  | _, _ => ⟨S1x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_call0_v0 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_call1_cst : Ref sig .tc := ⟨.hbm, 69, rfl⟩
abbrev main_call1_v0 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_cst_2 : Ref sig .tc := ⟨.hbm, 80, rfl⟩
abbrev main_v68 : Ref sig .tc := ⟨.hbm, 81, rfl⟩
abbrev main_v69 : Ref sig .tc := ⟨.hbm, 82, rfl⟩
abbrev main_cst_3 : Ref sig .tc := ⟨.hbm, 83, rfl⟩
abbrev main_v70 : Ref sig .tc := ⟨.hbm, 84, rfl⟩
abbrev main_v71 : Ref sig .tc := ⟨.hbm, 85, rfl⟩
abbrev main_cst_4 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_cst_5 : Ref sig .tc := ⟨.hbm, 92, rfl⟩
abbrev main_v77 : Ref sig .tc := ⟨.hbm, 93, rfl⟩
abbrev main_v78 : Ref sig .tc := ⟨.hbm, 94, rfl⟩
abbrev main_cst_6 : Ref sig .tc := ⟨.hbm, 95, rfl⟩
abbrev main_v79 : Ref sig .tc := ⟨.hbm, 96, rfl⟩
abbrev main_v80 : Ref sig .tc := ⟨.hbm, 97, rfl⟩
abbrev main_cst_7 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_8 : Ref sig .tc := ⟨.hbm, 102, rfl⟩
abbrev main_v84 : Ref sig .tc := ⟨.hbm, 103, rfl⟩
abbrev main_v85 : Ref sig .tc := ⟨.hbm, 104, rfl⟩
abbrev main_cst_9 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩

abbrev nD : Nat := 1
abbrev τ : Topo := Topo.v7x

variable {F : FTy → Type} [FloatOps F]
-- ==== Proof.Spec.lean ====
module

public import Idealize.ShloMosaic.Lib.Pointwise
public import Idealize.ShloMosaic.Lib.IdealHost

@[expose] public section

noncomputable section

/-! The function both programs compute, over extended reals and plain coordinates, and the scalar facts about it
that no program is needed for. -/

namespace Cert.Spec

open Idealize.ShloMosaic

/-- Channel `c` of pixel `(y, z)` divided by the larger of the pixel's Euclidean norm and the small constant. -/
def unit (x : Fin 768 → Fin 32 → Fin 32 → EReal) (c : Fin 768) (y z : Fin 32) : EReal :=
  Ideal.div (x c y z) (max (Ideal.sqrt (∑ k : Fin 768, x k y z * x k y z)) (Ideal.ofBits .f32 0x2B8CBCCC#32))

/-- The normalised image with one ring of zeros around it, at a position of the larger image. -/
def padded (x : Fin 768 → Fin 32 → Fin 32 → EReal) (c : Fin 768) (Y Z : ℕ) : EReal :=
  if h : (1 ≤ Y ∧ Y ≤ 32) ∧ (1 ≤ Z ∧ Z ≤ 32) then unit x c ⟨Y - 1, by omega⟩ ⟨Z - 1, by omega⟩ else 0

/-- The 3×3 convolution for class `k`, hidden channel `o`, at pixel `(y, z)`. -/
def conv (x : Fin 768 → Fin 32 → Fin 32 → EReal) (w : Fin 4 → Fin 256 → Fin 768 → Fin 3 → Fin 3 → EReal)
    (k : Fin 4) (o : Fin 256) (y z : Fin 32) : EReal :=
  ∑ a : Fin 3, ∑ b : Fin 3, ∑ c : Fin 768, w k o c a b * padded x c (y.val + a.val) (z.val + b.val)

/-- The hidden activation: the convolution plus its bias, clipped below at zero. -/
def hidden (x : Fin 768 → Fin 32 → Fin 32 → EReal) (w : Fin 4 → Fin 256 → Fin 768 → Fin 3 → Fin 3 → EReal)
    (b1 : Fin 4 → Fin 256 → EReal) (k : Fin 4) (o : Fin 256) (y z : Fin 32) : EReal :=
  max (conv x w k o y z + b1 k o) 0

/-- The logit of class `k` at pixel `(y, z)`. -/
def logit (x : Fin 768 → Fin 32 → Fin 32 → EReal) (w : Fin 4 → Fin 256 → Fin 768 → Fin 3 → Fin 3 → EReal)
    (b1 : Fin 4 → Fin 256 → EReal) (w2 : Fin 4 → Fin 256 → EReal) (b2 : Fin 4 → EReal)
    (k : Fin 4) (y z : Fin 32) : EReal :=
  (∑ o : Fin 256, w2 k o * hidden x w b1 k o y z) + b2 k

/-- The largest of four values, starting from minus infinity. -/
def top4 (f : Fin 4 → EReal) : EReal := Finset.univ.fold max ⊥ f

/-- The background score from the four logits of a pixel: zero when some logit is positive, otherwise one minus the
largest probability. -/
def background (l : Fin 4 → EReal) : EReal :=
  if 0 < top4 l then 0 else 1 - top4 fun k => Ideal.logistic (l k)

/-- The five scores of a pixel from its four logits: the background score, then the four probabilities. -/
def scores (l : Fin 4 → EReal) (n : Fin 5) : EReal :=
  if h : n.val = 0 then background l else Ideal.logistic (l ⟨n.val - 1, by omega⟩)

/-- The first score is the background's. -/
theorem scores_first (l : Fin 4 → EReal) (n : Fin 5) (h : n.val = 0) : scores l n = background l := dif_pos h

/-- The later scores are the probabilities. -/
theorem scores_later (l : Fin 4 → EReal) (n : Fin 5) (h : ¬n.val = 0) :
    scores l n = Ideal.logistic (l ⟨n.val - 1, by omega⟩) := dif_neg h

/-- The pattern of minus infinity. -/
theorem ofBits_bot : Ideal.ofBits .f32 0xFF800000#32 = ⊥ := by
  simp [Ideal.ofBits, Ideal.ieee]

/-- The pattern of one half. -/
theorem ofBits_half : Ideal.ofBits .f32 0x3F000000#32 = (((1 / 2 : ℝ)) : EReal) := by
  simp [Ideal.ofBits, Ideal.ieee]
  rw [← EReal.coe_mul]
  congr 1
  norm_num

/-- The logistic function exceeds one half exactly at the positive arguments. -/
theorem half_lt_logistic (l : EReal) : (((1 / 2 : ℝ)) : EReal) < Ideal.logistic l ↔ 0 < l := by
  induction l using EReal.rec with
  | bot =>
    simp only [Ideal.logistic_bot, not_lt_bot, iff_false, not_lt]
    exact_mod_cast (by norm_num : (0 : ℝ) ≤ 1 / 2)
  | top =>
    simp only [Ideal.logistic_top, EReal.zero_lt_top, iff_true]
    exact_mod_cast (by norm_num : (1 / 2 : ℝ) < 1)
  | coe r =>
    rw [Ideal.logistic_coe, EReal.coe_lt_coe_iff, EReal.coe_pos, one_div, inv_lt_inv₀ (by norm_num) (by positivity)]
    rw [show (2 : ℝ) = 1 + 1 by norm_num, add_lt_add_iff_left, Real.exp_lt_one_iff]
    simp

/-- The maximum of four values exceeds a bound exactly when one of them does. -/
theorem lt_top4 (f : Fin 4 → EReal) (b : EReal) : b < top4 f ↔ ∃ k, b < f k := by
  unfold top4
  rw [Finset.lt_fold_max]
  simp

/-- Whether some logit is positive can be read off the zero-or-one decisions: their maximum is positive exactly when
the largest logit is. -/
theorem zero_lt_decisions (l : Fin 4 → EReal) :
    0 < top4 (fun k => if (((1 / 2 : ℝ)) : EReal) < Ideal.logistic (l k) then 1 else 0) ↔ 0 < top4 l := by
  rw [lt_top4, lt_top4]
  refine exists_congr fun k => ?_
  simp only [half_lt_logistic]
  split <;> simp_all

/-- The background score as a product: one minus the largest probability, times one minus the zero-or-one flag that
some logit is positive. -/
theorem background_mul (l : Fin 4 → EReal) :
    (1 - top4 fun k => Ideal.logistic (l k)) * (1 - if 0 < top4 l then 1 else 0) = background l := by
  unfold background
  have h1 : (1 : EReal) - 1 = 0 := by
    rw [← EReal.coe_one, ← EReal.coe_sub]; simp
  split
  · rw [h1, mul_zero]
  · rw [sub_zero, mul_one]

end Cert.Spec

end
-- ==== Proof.Payload.lean ====
module

public import proofs.«01_k».proof.Proof.Gen.KernelIdeal.Skeleton
public import proofs.«01_k».proof.Proof.Spec

@[expose] public section

set_option maxRecDepth 16384

noncomputable section

/-! What each value the kernel body computes is, read at an index. -/

namespace Cert.KernelIdeal.Pay

open Cert.KernelIdeal Cert.KernelIdeal.Gen Idealize.ShloMosaic Idealize.ShloMosaic.TcCoe Idealize.SL.Sem

/-- The normalised features: each entry over the larger of its row's norm and the small constant. -/
theorem pay5_at (x : FVec Ideal S1024x768 .f32) (p : Fin 1024) (c : Fin 768) :
    k0_pay5 (F := Ideal) x (ix2 p c)
      = Ideal.div (x (ix2 p c)) (max (Ideal.sqrt (∑ k : Fin 768, x (ix2 p k) * x (ix2 p k))) (Ideal.ofBits .f32 0x2B8CBCCC#32)) := by
  pointwise [k0_pay5]

/-- The column number of a pixel, computed on words: the row index of the flattened image modulo its width. -/
theorem pay6_at : ∀ p : Fin 1024, k0_pay6 (ix2 p 0) = BitVec.ofNat 32 (p.val % 32) := by
  pointwise [k0_pay6]
  decide +kernel

/-- Comparing a pixel's column number with 31, as words. -/
theorem ne31 : ∀ p : Fin 1024, IntOp.cmpi CmpIPredicate.ne (BitVec.ofNat 32 (p.val % 32)) 31#32
    = if p.val % 32 = 31 then 0#1 else 1#1 := by
  decide +kernel

/-- Comparing a pixel's column number with 0, as words. -/
theorem ne0 : ∀ p : Fin 1024, IntOp.cmpi CmpIPredicate.ne (BitVec.ofNat 32 (p.val % 32)) 0#32
    = if p.val % 32 = 0 then 0#1 else 1#1 := by
  decide +kernel

/-- The features with the last column of the image zeroed. -/
theorem pay7_at (x : FVec Ideal S1024x768 .f32) (p : Fin 1024) (c : Fin 768) :
    k0_pay7 (F := Ideal) x (ix2 p c) = if p.val % 32 = 31 then 0 else k0_pay5 (F := Ideal) x (ix2 p c) := by
  pointwise [k0_pay7]
  rw [pay6_at, ne31]
  split <;> rfl

/-- The features with the first column of the image zeroed. -/
theorem pay8_at (x : FVec Ideal S1024x768 .f32) (p : Fin 1024) (c : Fin 768) :
    k0_pay8 (F := Ideal) x (ix2 p c) = if p.val % 32 = 0 then 0 else k0_pay5 (F := Ideal) x (ix2 p c) := by
  pointwise [k0_pay8]
  rw [pay6_at, ne0]
  split <;> rfl

/-- One block of hidden channels: its contribution to the four logits of pixel `p`. -/
theorem pay1_at (xc : FVec Ideal S1024x6912 .f32) (w : FVec Ideal S128x6912 .f32) (b : FVec Ideal S1x128 .f32)
    (w2 : FVec Ideal S128x4 .f32) (p : Fin 1024) (n : Fin 4) :
    k0_pay1 (F := Ideal) xc w b w2 (ix2 p n)
      = ∑ q : Fin 128, max ((∑ κ : Fin 6912, xc (ix2 p κ) * w (ix2 q κ)) + b (ix2 0 q)) 0 * w2 (ix2 q n) := by
  pointwise [k0_pay1]

/-- The first block's contribution is stored as it is. -/
theorem pay2_eq (xc : FVec Ideal S1024x6912 .f32) (w : FVec Ideal S128x6912 .f32) (b : FVec Ideal S1x128 .f32)
    (w2 : FVec Ideal S128x4 .f32) : k0_pay2 (F := Ideal) xc w b w2 = k0_pay1 (F := Ideal) xc w b w2 :=
  shapeCast_self _ _

/-- A later block's contribution is added to what was accumulated. -/
theorem pay3_at (xc : FVec Ideal S1024x6912 .f32) (w : FVec Ideal S128x6912 .f32) (b : FVec Ideal S1x128 .f32)
    (w2 : FVec Ideal S128x4 .f32) (a : FVec Ideal S1024x4 .f32) (i : S1024x4.Idx) :
    k0_pay3 (F := Ideal) xc w b w2 a i = a i + k0_pay1 (F := Ideal) xc w b w2 i := by
  pointwise [k0_pay3]

/-- The last stage: from the accumulated logits and their bias to the five scores of pixel `p`. -/
theorem pay4_at (a : FVec Ideal S1024x4 .f32) (b : FVec Ideal S1x4 .f32) (p : Fin 1024) (n : Fin 5) :
    k0_pay4 (F := Ideal) a b (ix2 p n) = Spec.scores (fun k => a (ix2 p k) + b (ix2 0 k)) n := by
  pointwise [k0_pay4, Spec.scores, Spec.background, Spec.top4]
  rw [Spec.ofBits_bot]
  simp only [Nat.lt_one_iff]

/-- The nine shifted copies of an image `v` side by side: entry `(p, t·768 + c)` is channel `c` of the pixel that tap
`t` of a 3×3 window around pixel `p` sees, and zero where that lies outside the image. -/
def cols (v : FVec Ideal S1024x768 .f32) : FVec Ideal S1024x6912 .f32 := fun i =>
  if h : (1 ≤ (i 0).val / 32 + (i 1).val / 768 / 3 ∧ (i 0).val / 32 + (i 1).val / 768 / 3 ≤ 32)
      ∧ (1 ≤ (i 0).val % 32 + (i 1).val / 768 % 3 ∧ (i 0).val % 32 + (i 1).val / 768 % 3 ≤ 32) then
    v (ix2 ⟨((i 0).val / 32 + (i 1).val / 768 / 3 - 1) * 32 + ((i 0).val % 32 + (i 1).val / 768 % 3 - 1), by omega⟩
      ⟨(i 1).val % 768, by omega⟩)
  else 0

/-- An entry of the shifted copies whose tap falls inside the image. -/
theorem cols_in (v : FVec Ideal S1024x768 .f32) (y : S1024x6912.Idx) (r : Fin 1024) (c : Fin 768)
    (hr : r.val + 33 = (y 0).val + 32 * ((y 1).val / 768 / 3) + (y 1).val / 768 % 3) (hc : c.val = (y 1).val % 768)
    (h0 : 1 ≤ (y 0).val % 32 + (y 1).val / 768 % 3) (h1 : (y 0).val % 32 + (y 1).val / 768 % 3 ≤ 32) :
    v (ix2 r c) = cols v y := by
  have hr' := r.isLt
  unfold cols
  rw [dif_pos ⟨by omega, h0, h1⟩]
  congr 2
  · apply Fin.ext; dsimp only; omega
  · apply Fin.ext; dsimp only; omega

/-- An entry of the shifted copies whose tap falls outside the image. -/
theorem cols_out (v : FVec Ideal S1024x768 .f32) (y : S1024x6912.Idx)
    (h : ¬((1 ≤ (y 0).val / 32 + (y 1).val / 768 / 3 ∧ (y 0).val / 32 + (y 1).val / 768 / 3 ≤ 32)
      ∧ (1 ≤ (y 0).val % 32 + (y 1).val / 768 % 3 ∧ (y 0).val % 32 + (y 1).val / 768 % 3 ≤ 32))) :
    0 = cols v y := by
  unfold cols
  rw [dif_neg h]

/-- A tap of the window's middle column reads the features themselves. -/
theorem cols_mid (x : FVec Ideal S1024x768 .f32) (y : S1024x6912.Idx) (r : Fin 1024) (c : Fin 768)
    (hr : r.val + 33 = (y 0).val + 32 * ((y 1).val / 768 / 3) + (y 1).val / 768 % 3) (hc : c.val = (y 1).val % 768)
    (ht : (y 1).val / 768 % 3 = 1) : k0_pay5 (F := Ideal) x (ix2 r c) = cols (k0_pay5 (F := Ideal) x) y :=
  cols_in _ y r c hr hc (by omega) (by omega)

/-- A tap of the window's left column reads the features with the image's last column zeroed. -/
theorem cols_left (x : FVec Ideal S1024x768 .f32) (y : S1024x6912.Idx) (r : Fin 1024) (c : Fin 768)
    (hr : r.val + 33 = (y 0).val + 32 * ((y 1).val / 768 / 3) + (y 1).val / 768 % 3) (hc : c.val = (y 1).val % 768)
    (ht : (y 1).val / 768 % 3 = 0) : k0_pay7 (F := Ideal) x (ix2 r c) = cols (k0_pay5 (F := Ideal) x) y := by
  rw [pay7_at]
  split
  · exact cols_out _ y (by omega)
  · exact cols_in _ y r c hr hc (by omega) (by omega)

/-- A tap of the window's right column reads the features with the image's first column zeroed. -/
theorem cols_right (x : FVec Ideal S1024x768 .f32) (y : S1024x6912.Idx) (r : Fin 1024) (c : Fin 768)
    (hr : r.val + 33 = (y 0).val + 32 * ((y 1).val / 768 / 3) + (y 1).val / 768 % 3) (hc : c.val = (y 1).val % 768)
    (ht : (y 1).val / 768 % 3 = 2) : k0_pay8 (F := Ideal) x (ix2 r c) = cols (k0_pay5 (F := Ideal) x) y := by
  rw [pay8_at]
  split
  · exact cols_out _ y (by omega)
  · exact cols_in _ y r c hr hc (by omega) (by omega)

/-- A row whose shifted position lies above or below the image gets zeros. -/
theorem cols_zero (x : FVec Ideal S1024x768 .f32) (y : S1024x6912.Idx)
    (h : (y 0).val + 32 * ((y 1).val / 768 / 3) + (y 1).val / 768 % 3 < 33
      ∨ 1057 ≤ (y 0).val + 32 * ((y 1).val / 768 / 3) + (y 1).val / 768 % 3) :
    0 = cols (k0_pay5 (F := Ideal) x) y :=
  cols_out _ y (by omega)

end Cert.KernelIdeal.Pay

end
-- ==== Proof.Blocks.lean ====
module

public import proofs.«01_k».proof.Proof.Gen.KernelIdeal.Frame
public import proofs.«01_k».proof.Proof.Payload
public import Idealize.ShloMosaic.Lib.Pipeline.ValueKit

@[expose] public section

set_option maxRecDepth 16384

noncomputable section

/-! What the scratch buffers and the output buffer hold after each grid point. -/

namespace Cert.KernelIdeal.Blocks

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 1600000 in
/-- The seventeen stores of the first grid point leave the nine shifted copies of the normalised features. -/
theorem cols_run (c : Dev nD) (i : grid0.Coords) (arg1 : Memref sig .tc .vmem S1024x768 .f32) (harg1 : arg1.IsWhole)
    (arg2 : Memref sig .tc .vmem S128x6912 .f32) (harg2 : arg2.IsWhole) (arg3 : Memref sig .tc .vmem S1x128 .f32)
    (harg3 : arg3.IsWhole) (arg4 : Memref sig .tc .vmem S128x4 .f32) (harg4 : arg4.IsWhole)
    (arg5 : Memref sig .tc .vmem S1x4 .f32) (harg5 : arg5.IsWhole) (arg6 : Memref sig .tc .vmem S1024x5 .f32)
    (harg6 : arg6.IsWhole) (arg7 : Memref sig .tc .vmem S1024x6912 .f32) (harg7 : arg7.IsWhole)
    (arg8 : Memref sig .tc .vmem S1024x4 .f32) (harg8 : arg8.IsWhole) (hc0 : cond0_0 i) (hc1 : cond0_1 i)
    (hc2 : ¬cond0_2 i) (hc3 : ¬cond0_3 i) (x0 : FVec Ideal S1024x768 .f32) (x1 : FVec Ideal S128x6912 .f32)
    (x2 : FVec Ideal S1x128 .f32) (x3 : FVec Ideal S128x4 .f32) (x4 : FVec Ideal S1x4 .f32) :
    sout0_A_0 (F := Ideal) c i arg1 harg1 arg2 harg2 arg3 harg3 arg4 harg4 arg5 harg5 arg6 harg6 arg7 harg7 arg8 harg8
      hc0 hc1 hc2 hc3 x0 x1 x2 x3 x4 = Pay.cols (k0_pay5 (F := Ideal) x0) := by
  funext y
  have hc := scover0_A_0 (F := Ideal) c i arg1 harg1 arg2 harg2 arg3 harg3 arg4 harg4 arg5 harg5 arg6 harg6 arg7 harg7
    arg8 harg8 hc0 hc1 hc2 hc3 x0 x1 x2 x3 x4 y
  frame_out at hc
  frame_out
  canon_tiles x g using hc
  all_goals idx_vars x
  all_goals
    pointwise [k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26]
    first
    | exact Pay.cols_zero _ y (by omega)
    | exact Pay.cols_mid _ y _ _ (by dsimp only; omega) (by omega) (by omega)
    | exact Pay.cols_left _ y _ _ (by dsimp only; omega) (by omega) (by omega)
    | exact Pay.cols_right _ y _ _ (by dsimp only; omega) (by omega) (by omega)

/-- After the first grid point the first scratch buffer holds the nine shifted copies of the normalised features. -/
theorem cols_first (c : Dev nD) (t : Fin cfg0.N) (h : t.val = 0) :
    (outsAt0 m c t.val t.isLt).2.1 = Pay.cols (k0_pay5 (F := Ideal) (iblk m c 0 t)) := by
  rw [outsAt0_A m c t (by omega) (by omega) (by omega) (by omega)]
  dsimp only
  rw [cols_run]

/-- After the first grid point the second scratch buffer holds the first block's contribution. -/
theorem acc_first (c : Dev nD) (t : Fin cfg0.N) (h : t.val = 0) :
    (outsAt0 m c t.val t.isLt).2.2 =
      k0_pay1 (F := Ideal) (outsAt0 m c t.val t.isLt).2.1 (iblk m c 1 t) (iblk m c 2 t) (iblk m c 3 t) := by
  rw [outsAt0_A m c t (by omega) (by omega) (by omega) (by omega)]
  frame_out
  rw [View.readCov_eq_canon', Pay.pay2_eq]
  exact congrArg (fun X => k0_pay1 X (iblk m c 1 t) (iblk m c 2 t) (iblk m c 3 t)) (View.ld_unit_lit _ _ (by decide))

/-- Every later grid point leaves the first scratch buffer as it was. -/
theorem cols_next (c : Dev nD) (t : Fin cfg0.N) (h : ¬t.val % 8 = 0) :
    (outsAt0 m c t.val t.isLt).2.1 = (outsAt0 m c (t.val - 1) (Nat.lt_of_le_of_lt (Nat.sub_le _ _) t.isLt)).2.1 := by
  by_cases h7 : t.val % 8 = 7
  · rw [outsAt0_C m c t h h (by omega) h7]
    rfl
  · rw [outsAt0_B m c t h h (by omega) h7]
    rfl

/-- Every later grid point adds its block's contribution to the second scratch buffer. -/
theorem acc_next (c : Dev nD) (t : Fin cfg0.N) (h : ¬t.val % 8 = 0) :
    (outsAt0 m c t.val t.isLt).2.2 = k0_pay3 (F := Ideal)
      (outsAt0 m c (t.val - 1) (Nat.lt_of_le_of_lt (Nat.sub_le _ _) t.isLt)).2.1 (iblk m c 1 t) (iblk m c 2 t)
      (iblk m c 3 t) (outsAt0 m c (t.val - 1) (Nat.lt_of_le_of_lt (Nat.sub_le _ _) t.isLt)).2.2 := by
  by_cases h7 : t.val % 8 = 7
  · rw [outsAt0_C m c t h h (by omega) h7]
    frame_out
    exact congrArg₂ (fun X A => k0_pay3 (F := Ideal) X (iblk m c 1 t) (iblk m c 2 t) (iblk m c 3 t) A)
      (Memref.IsWhole.read_unread _ _) (Memref.IsWhole.read_unread _ _)
  · rw [outsAt0_B m c t h h (by omega) h7]
    frame_out
    exact congrArg₂ (fun X A => k0_pay3 (F := Ideal) X (iblk m c 1 t) (iblk m c 2 t) (iblk m c 3 t) A)
      (Memref.IsWhole.read_unread _ _) (Memref.IsWhole.read_unread _ _)

/-- The last grid point leaves the scores of the accumulated logits in the output buffer. -/
theorem out_last (c : Dev nD) (t : Fin cfg0.N) (h : t.val % 8 = 7) :
    (outsAt0 m c t.val t.isLt).1 = k0_pay4 (F := Ideal) (outsAt0 m c t.val t.isLt).2.2 (iblk m c 4 t) := by
  rw [acc_next m c t (by omega), outsAt0_C m c t (by omega) (by omega) (by omega) h]
  frame_out
  exact congrArg (fun A => k0_pay4 (F := Ideal) A (iblk m c 4 t))
    (congrArg₂ (fun X A => k0_pay3 (F := Ideal) X (iblk m c 1 t) (iblk m c 2 t) (iblk m c 3 t) A)
      (Memref.IsWhole.read_unread _ _) (Memref.IsWhole.read_unread _ _))

end Cert.KernelIdeal.Blocks

end
-- ==== Proof.Reads.lean ====
module

public import proofs.«01_k».proof.Proof.Gen.KernelIdeal.Frame
public import proofs.«01_k».proof.Proof.Payload
public import Idealize.ShloMosaic.Lib.Pipeline.ValueKit
public import Idealize.ShloMosaic.Lib.Claim

@[expose] public section

set_option maxRecDepth 16384

noncomputable section

/-! The kernel's input blocks read at coordinates, as entries of the arguments: the host lines before the launch only
move entries, and lay the second weights out block-diagonally. -/

namespace Cert.KernelIdeal.Reads

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The block indices of the six windows at every grid point. -/
theorem idx : ∀ t : Fin cfg0.N, win0_0.index t = ![0, 0] ∧ win0_1.index t = ![t.val, 0] ∧ win0_2.index t = ![0, t.val]
    ∧ win0_3.index t = ![t.val, 0] ∧ win0_4.index t = ![0, 0] ∧ win0_5.index t = ![0, 0] :=
  (by decide +kernel : ∀ t : Fin grid0.N, _)

/-- The feature map as the launch finds it: pixel by channel. -/
theorem v1_at (c : Dev nD) (p : Fin 1024) (k : Fin 768) :
    (show FVec Ideal S1024x768 .f32 from V m c main_v1) (ix2 p k)
      = (show FVec Ideal S1x768x32x32 .f32 from m ((c : Thread nD τ).loc main_arg0))
          (ix4 0 k ⟨p.val / 32, by omega⟩ ⟨p.val % 32, by omega⟩) := by
  simp only [V, V0, hostOps0, List.flatten_cons, List.flatten_nil, List.append_nil]
  after_results
  pointwise

/-- The first weights as the launch finds them: the output channels of all heads by tap and input channel. -/
theorem v4_at (c : Dev nD) (r : Fin 1024) (κ : Fin 6912) :
    (show FVec Ideal S1024x6912 .f32 from V m c main_v4) (ix2 r κ)
      = (show FVec Ideal S4x256x768x3x3 .f32 from m ((c : Thread nD τ).loc main_arg1))
          (ix5 ⟨r.val / 256, by omega⟩ ⟨r.val % 256, by omega⟩ ⟨κ.val % 768, by omega⟩
            ⟨κ.val / 768 / 3, by omega⟩ ⟨κ.val / 768 % 3, by omega⟩) := by
  simp only [V, V0, hostOps0, List.flatten_cons, List.flatten_nil, List.append_nil]
  after_results
  pointwise

/-- The first biases as the launch finds them: one row over the channels of all heads. -/
theorem v5_at (c : Dev nD) (r : Fin 1024) :
    (show FVec Ideal S1x1024 .f32 from V m c main_v5) (ix2 0 r)
      = (show FVec Ideal S4x256 .f32 from m ((c : Thread nD τ).loc main_arg2))
          (ix2 ⟨r.val / 256, by omega⟩ ⟨r.val % 256, by omega⟩) := by
  simp only [V, V0, hostOps0, List.flatten_cons, List.flatten_nil, List.append_nil]
  after_results
  pointwise

/-- An entry of the four by four identity matrix, as the host lines build it. -/
theorem eye_at (a b : ℕ) (ha : a < 4) (hb : b < 4) :
    (FloatOps.uitofp FTy.f32 (IntOp.cmpi CmpIPredicate.eq (IntOp.addi (BitVec.ofNat 32 a) 0#32) (BitVec.ofNat 32 b))
      : Ideal .f32) = if a = b then (1 : EReal) else 0 := by
  have h : IntOp.cmpi CmpIPredicate.eq (IntOp.addi (BitVec.ofNat 32 a) 0#32) (BitVec.ofNat 32 b)
      = if a = b then 1#1 else 0#1 := by
    interval_cases a <;> interval_cases b <;> decide
  rw [h]
  split
  · show (((1#1).toNat : ℝ) : EReal) = 1
    simp
  · show (((0#1).toNat : ℝ) : EReal) = 0
    simp

/-- The second weights as the launch finds them: a head's channels weigh on that head alone. -/
theorem v17_at (c : Dev nD) (r : Fin 1024) (n : Fin 4) :
    (show FVec Ideal S1024x4 .f32 from V m c main_v17) (ix2 r n)
      = if r.val / 256 = n.val then
          (show FVec Ideal S4x1x256x1x1 .f32 from m ((c : Thread nD τ).loc main_arg3))
            (ix5 n 0 ⟨r.val % 256, by omega⟩ 0 0) else 0 := by
  simp only [V, V0, hostOps0, List.flatten_cons, List.flatten_nil, List.append_nil]
  after_results
  pointwise
  by_cases h : r.val / 256 = n.val
  · have e : (⟨r.val / 256, by omega⟩ : Fin 4) = n := Fin.ext h
    rw [eye_at _ _ (by omega) (by omega), if_pos h, if_pos h, one_mul, e]
  · rw [eye_at _ _ (by omega) (by omega), if_neg h, if_neg h, zero_mul]

/-- The second biases as the launch finds them: one row over the heads. -/
theorem v18_at (c : Dev nD) (n : Fin 4) :
    (show FVec Ideal S1x4 .f32 from V m c main_v18) (ix2 0 n)
      = (show FVec Ideal S4x1 .f32 from m ((c : Thread nD τ).loc main_arg4)) (ix2 n 0) := by
  simp only [V, V0, hostOps0, List.flatten_cons, List.flatten_nil, List.append_nil]
  after_results
  pointwise

/-- The feature-map block is the whole map at every point. -/
theorem x_at (c : Dev nD) (t : Fin cfg0.N) (p : Fin 1024) (k : Fin 768) :
    (show FVec Ideal S1024x768 .f32 from iblk m c 0 t) (ix2 p k)
      = (show FVec Ideal S1x768x32x32 .f32 from m ((c : Thread nD τ).loc main_arg0))
          (ix4 0 k ⟨p.val / 32, by omega⟩ ⟨p.val % 32, by omega⟩) := by
  rw [← v1_at m c]
  blk_simp [iblk, idx t]
  blk_ext [idx t]

/-- The weight block of point `t` is the rows of channels `128 t …`. -/
theorem w_at (c : Dev nD) (t : Fin cfg0.N) (q : Fin 128) (κ : Fin 6912) :
    (show FVec Ideal S128x6912 .f32 from iblk m c 1 t) (ix2 q κ)
      = (show FVec Ideal S1024x6912 .f32 from V m c main_v4) (ix2 ⟨t.val * 128 + q.val, by have : t.val < 8 := t.isLt; omega⟩ κ) := by
  blk_simp [iblk, idx t]
  blk_ext [idx t]

/-- The bias block of point `t` is the entries of channels `128 t …`. -/
theorem b1_at (c : Dev nD) (t : Fin cfg0.N) (q : Fin 128) :
    (show FVec Ideal S1x128 .f32 from iblk m c 2 t) (ix2 0 q)
      = (show FVec Ideal S1x1024 .f32 from V m c main_v5) (ix2 0 ⟨t.val * 128 + q.val, by have : t.val < 8 := t.isLt; omega⟩) := by
  blk_simp [iblk, idx t]
  blk_ext [idx t]

/-- The second-weight block of point `t` is the rows of channels `128 t …`. -/
theorem w2_at (c : Dev nD) (t : Fin cfg0.N) (q : Fin 128) (n : Fin 4) :
    (show FVec Ideal S128x4 .f32 from iblk m c 3 t) (ix2 q n)
      = (show FVec Ideal S1024x4 .f32 from V m c main_v17) (ix2 ⟨t.val * 128 + q.val, by have : t.val < 8 := t.isLt; omega⟩ n) := by
  blk_simp [iblk, idx t]
  blk_ext [idx t]

/-- The second-bias block is the whole row at every point. -/
theorem b2_at (c : Dev nD) (t : Fin cfg0.N) (n : Fin 4) :
    (show FVec Ideal S1x4 .f32 from iblk m c 4 t) (ix2 0 n)
      = (show FVec Ideal S4x1 .f32 from m ((c : Thread nD τ).loc main_arg4)) (ix2 n 0) := by
  rw [← v18_at m c]
  blk_simp [iblk, idx t]
  blk_ext [idx t]

end Cert.KernelIdeal.Reads

end
-- ==== Proof.Result.lean ====
module

public import proofs.«01_k».proof.Proof.Spec
public import Idealize.ShloMosaic.Lib.Pointwise

@[expose] public section

set_option maxRecDepth 16384

noncomputable section

/-! The result both programs compute, as one array over the five argument arrays. -/

namespace Cert.Spec

open Idealize.ShloMosaic

/-- The feature map by channel and pixel. -/
def feat (X : FVec Ideal ⟨4, ![1, 768, 32, 32]⟩ .f32) : Fin 768 → Fin 32 → Fin 32 → EReal := fun c y z => X (ix4 0 c y z)

/-- The first weights by head, hidden channel, input channel and tap. -/
def weights (W : FVec Ideal ⟨5, ![4, 256, 768, 3, 3]⟩ .f32) : Fin 4 → Fin 256 → Fin 768 → Fin 3 → Fin 3 → EReal :=
  fun k o c a b => W (ix5 k o c a b)

/-- The first biases by head and hidden channel. -/
def biases (B : FVec Ideal ⟨2, ![4, 256]⟩ .f32) : Fin 4 → Fin 256 → EReal := fun k o => B (ix2 k o)

/-- The second weights by head and hidden channel. -/
def weights2 (W : FVec Ideal ⟨5, ![4, 1, 256, 1, 1]⟩ .f32) : Fin 4 → Fin 256 → EReal := fun k o => W (ix5 k 0 o 0 0)

/-- The second biases by head. -/
def biases2 (B : FVec Ideal ⟨2, ![4, 1]⟩ .f32) : Fin 4 → EReal := fun k => B (ix2 k 0)

/-- The four logits of a pixel from the argument arrays. -/
def logits (X : FVec Ideal ⟨4, ![1, 768, 32, 32]⟩ .f32) (W : FVec Ideal ⟨5, ![4, 256, 768, 3, 3]⟩ .f32)
    (B : FVec Ideal ⟨2, ![4, 256]⟩ .f32) (W2 : FVec Ideal ⟨5, ![4, 1, 256, 1, 1]⟩ .f32)
    (B2 : FVec Ideal ⟨2, ![4, 1]⟩ .f32) (y z : Fin 32) : Fin 4 → EReal :=
  fun k => logit (feat X) (weights W) (biases B) (weights2 W2) (biases2 B2) k y z

/-- The five scores of every pixel from the argument arrays. -/
def result (X : FVec Ideal ⟨4, ![1, 768, 32, 32]⟩ .f32) (W : FVec Ideal ⟨5, ![4, 256, 768, 3, 3]⟩ .f32)
    (B : FVec Ideal ⟨2, ![4, 256]⟩ .f32) (W2 : FVec Ideal ⟨5, ![4, 1, 256, 1, 1]⟩ .f32)
    (B2 : FVec Ideal ⟨2, ![4, 1]⟩ .f32) : FVec Ideal ⟨4, ![1, 5, 32, 32]⟩ .f32 :=
  fun i => scores (logits X W B W2 B2 (i 2) (i 3)) (i 1)

end Cert.Spec

end
-- ==== Proof.Logits.lean ====
module

public import proofs.«01_k».proof.Proof.Blocks
public import proofs.«01_k».proof.Proof.Reads
public import proofs.«01_k».proof.Proof.Result

@[expose] public section

set_option maxRecDepth 16384

noncomputable section

/-! The kernel's accumulated sums are the logits: the shifted copies read the padded image, the sum over columns is the
sum over taps and channels, the sum over grid points and block columns is the sum over heads and hidden channels, and
of the heads the block-diagonal weights keep one. -/

namespace Cert.KernelIdeal.Logits

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The feature map as launched. -/
abbrev X (c : Dev nD) : FVec Ideal S1x768x32x32 .f32 := m ((c : Thread nD τ).loc main_arg0)
/-- The first weights as launched. -/
abbrev W (c : Dev nD) : FVec Ideal S4x256x768x3x3 .f32 := m ((c : Thread nD τ).loc main_arg1)
/-- The first biases as launched. -/
abbrev B (c : Dev nD) : FVec Ideal S4x256 .f32 := m ((c : Thread nD τ).loc main_arg2)
/-- The second weights as launched. -/
abbrev W2 (c : Dev nD) : FVec Ideal S4x1x256x1x1 .f32 := m ((c : Thread nD τ).loc main_arg3)
/-- The second biases as launched. -/
abbrev B2 (c : Dev nD) : FVec Ideal S4x1 .f32 := m ((c : Thread nD τ).loc main_arg4)

/-- The block of the feature map is the same at every grid point. -/
theorem iblk_x (c : Dev nD) (t s : Fin cfg0.N) :
    (show FVec Ideal S1024x768 .f32 from iblk m c 0 t) = iblk m c 0 s := by
  funext i
  rw [← ix2_eta i]
  exact (Reads.x_at m c t _ _).trans (Reads.x_at m c s _ _).symm

/-- The normalised features of the kernel are the normalised image. -/
theorem unit_at (c : Dev nD) (t : Fin cfg0.N) (p : Fin 1024) (k : Fin 768) :
    k0_pay5 (F := Ideal) (iblk m c 0 t) (ix2 p k)
      = Spec.unit (Spec.feat (X m c)) k ⟨p.val / 32, by omega⟩ ⟨p.val % 32, by omega⟩ := by
  rw [Pay.pay5_at]
  unfold Spec.unit Spec.feat
  have h := fun k => Reads.x_at m c t p k
  dsimp only at h
  simp only [h]

/-- An entry of the shifted copies is an entry of the padded image. -/
theorem cols_at (c : Dev nD) (t : Fin cfg0.N) (p : Fin 1024) (κ : Fin 6912) :
    Pay.cols (k0_pay5 (F := Ideal) (iblk m c 0 t)) (ix2 p κ)
      = Spec.padded (Spec.feat (X m c)) ⟨κ.val % 768, by omega⟩ (p.val / 32 + κ.val / 768 / 3) (p.val % 32 + κ.val / 768 % 3) := by
  unfold Pay.cols Spec.padded
  by_cases h : (1 ≤ p.val / 32 + κ.val / 768 / 3 ∧ p.val / 32 + κ.val / 768 / 3 ≤ 32)
      ∧ (1 ≤ p.val % 32 + κ.val / 768 % 3 ∧ p.val % 32 + κ.val / 768 % 3 ≤ 32)
  · rw [dif_pos h]
    refine Eq.trans (dif_pos h) ((unit_at m c t _ _).trans ?_)
    congr 1 <;> apply Fin.ext <;> dsimp [ix2] <;> omega
  · rw [dif_neg h]
    exact dif_neg h

/-- At every grid point the first scratch buffer holds the shifted copies. -/
theorem cols_all (c : Dev nD) (n : ℕ) : ∀ h : n < cfg0.N,
    (outsAt0 m c n h).2.1 = Pay.cols (k0_pay5 (F := Ideal) (iblk m c 0 ⟨n, h⟩)) := by
  induction n with
  | zero => exact fun h => Blocks.cols_first m c ⟨0, h⟩ rfl
  | succ n ih =>
    intro h
    have hN : n + 1 < 8 := h
    have e := Blocks.cols_next m c ⟨n + 1, h⟩ (by dsimp only; omega)
    refine e.trans ((ih (by omega)).trans ?_)
    exact congrArg (fun x => Pay.cols (k0_pay5 (F := Ideal) x)) (iblk_x m c _ _)

/-- What one channel, of the channels of all heads, adds to a logit of a pixel. -/
def share (c : Dev nD) (p : Fin 1024) (n : Fin 4) (r : Fin 1024) : EReal :=
  max ((∑ κ : Fin 6912, Pay.cols (k0_pay5 (F := Ideal) (iblk m c 0 t0_0)) (ix2 p κ)
      * (show FVec Ideal S1024x6912 .f32 from V m c main_v4) (ix2 r κ))
    + (show FVec Ideal S1x1024 .f32 from V m c main_v5) (ix2 0 r)) 0
    * (show FVec Ideal S1024x4 .f32 from V m c main_v17) (ix2 r n)

/-- What one grid point adds to a logit of a pixel: the shares of its channels. -/
theorem point_at (c : Dev nD) (t : Fin cfg0.N) (p : Fin 1024) (n : Fin 4) :
    k0_pay1 (F := Ideal) (outsAt0 m c t.val t.isLt).2.1 (iblk m c 1 t) (iblk m c 2 t) (iblk m c 3 t) (ix2 p n)
      = ∑ q : Fin 128, share m c p n ⟨t.val * 128 + q.val, by have : t.val < 8 := t.isLt; omega⟩ := by
  rw [cols_all, Pay.pay1_at]
  refine Finset.sum_congr rfl fun q _ => ?_
  unfold share
  have hx := iblk_x m c ⟨t.val, t.isLt⟩ t0_0
  have hw := fun κ => Reads.w_at m c t q κ
  have hb := Reads.b1_at m c t q
  have hv := Reads.w2_at m c t q n
  dsimp only at hx hw hb hv
  simp only [hx, hw, hb, hv]

/-- The accumulator after the last grid point: the shares of all channels. -/
theorem acc_last (c : Dev nD) (t : Fin cfg0.N) (h : t.val + 1 = cfg0.N) (p : Fin 1024) (n : Fin 4) :
    (show FVec Ideal S1024x4 .f32 from (outsAt0 m c t.val t.isLt).2.2) (ix2 p n) = ∑ r : Fin 1024, share m c p n r := by
  have e := Pipeline.eq_sum_fin_of_reset_step_apply_last (M := EReal) (fun n h => (outsAt0 m c n h).2.2) 8 (fun _ => 0)
    (fun t i => k0_pay1 (F := Ideal) (outsAt0 m c t.val t.isLt).2.1 (iblk m c 1 t) (iblk m c 2 t) (iblk m c 3 t) i)
    (fun t h i => by
      have ht : t.val < 8 := t.isLt
      rw [Blocks.acc_first m c t (by omega), zero_add])
    (fun t h i => by
      rw [Blocks.acc_next m c t h, Pay.pay3_at, Blocks.cols_next m c t h])
    (le_of_eq N_0) t h (ix2 p n)
  refine e.trans ?_
  rw [zero_add, Fin.sum_univ_tiles 8 128 rfl]
  exact Finset.sum_congr rfl fun s _ => point_at m c s p n

/-- A sum over the columns of the shifted copies, by tap row, tap column and input channel. -/
theorem sum_taps (f : Fin 6912 → EReal) :
    ∑ κ : Fin 6912, f κ = ∑ a : Fin 3, ∑ b : Fin 3, ∑ k : Fin 768, f ⟨(a.val * 3 + b.val) * 768 + k.val, by omega⟩ := by
  rw [Fin.sum_univ_tiles 9 768 rfl, Fin.sum_univ_tiles 3 3 rfl]

/-- The share of a head's channel: its hidden activation times its second weight, on its own head alone. -/
theorem share_at (c : Dev nD) (p : Fin 1024) (n k : Fin 4) (o : Fin 256) :
    share m c p n ⟨k.val * 256 + o.val, by omega⟩
      = Spec.hidden (Spec.feat (X m c)) (Spec.weights (W m c)) (Spec.biases (B m c)) k o ⟨p.val / 32, by omega⟩ ⟨p.val % 32, by omega⟩
        * if k = n then Spec.weights2 (W2 m c) n o else 0 := by
  have hk : (k.val * 256 + o.val) / 256 = k.val := by omega
  have ho : (k.val * 256 + o.val) % 256 = o.val := by omega
  unfold share Spec.hidden Spec.conv
  rw [Reads.v5_at, Reads.v17_at, sum_taps]
  congr 1
  · congr 2
    · refine Finset.sum_congr rfl fun a _ => Finset.sum_congr rfl fun b _ => Finset.sum_congr rfl fun i _ => ?_
      rw [cols_at, Reads.v4_at, mul_comm]
      have e0 : ((a.val * 3 + b.val) * 768 + i.val) % 768 = i.val := by omega
      have e1 : ((a.val * 3 + b.val) * 768 + i.val) / 768 / 3 = a.val := by omega
      have e2 : ((a.val * 3 + b.val) * 768 + i.val) / 768 % 3 = b.val := by omega
      simp only [hk, ho, e0, e1, e2]
      rfl
    · simp only [hk, ho]
      rfl
  · simp only [hk, ho, Fin.val_inj]
    rfl

/-- The accumulated sum with the second bias is the logit. -/
theorem logit_at (c : Dev nD) (t : Fin cfg0.N) (h : t.val + 1 = cfg0.N) (p : Fin 1024) (n : Fin 4) :
    (show FVec Ideal S1024x4 .f32 from (outsAt0 m c t.val t.isLt).2.2) (ix2 p n)
        + (show FVec Ideal S1x4 .f32 from iblk m c 4 t) (ix2 0 n)
      = Spec.logits (X m c) (W m c) (B m c) (W2 m c) (B2 m c) ⟨p.val / 32, by omega⟩ ⟨p.val % 32, by omega⟩ n := by
  rw [acc_last m c t h, Reads.b2_at, Fin.sum_univ_tiles 4 256 rfl]
  unfold Spec.logits Spec.logit
  congr 1
  rw [Finset.sum_eq_single n]
  · refine Finset.sum_congr rfl fun o _ => ?_
    rw [share_at, if_pos rfl, mul_comm]
  · intro k _ hkn
    refine Finset.sum_eq_zero fun o _ => ?_
    rw [share_at, if_neg hkn, mul_zero]
  · intro hn
    exact absurd (Finset.mem_univ n) hn

end Cert.KernelIdeal.Logits

end
-- ==== Proof.Final.lean ====
module

public import proofs.«01_k».proof.Proof.Logits

@[expose] public section

set_option maxRecDepth 16384

noncomputable section

/-! The kernel's result: the scores of the logits, transposed and reshaped by the host lines after the launch. -/

namespace Cert.KernelIdeal.Final

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The scores of every pixel, pixel by score, as the launch leaves them. -/
def rows (c : Dev nD) : FVec Ideal S1024x5 .f32 := fun i =>
  Spec.scores (Spec.logits (Logits.X m c) (Logits.W m c) (Logits.B m c) (Logits.W2 m c) (Logits.B2 m c)
    ⟨(i 0).val / 32, by have : (i 0).val < 1024 := (i 0).isLt; omega⟩ ⟨(i 0).val % 32, by omega⟩) (i 1)

/-- What the last grid point leaves in the output buffer. -/
theorem out_at (c : Dev nD) (t : Fin cfg0.N) (h : t.val % 8 = 7) (i : S1024x5.Idx) :
    (show FVec Ideal S1024x5 .f32 from (outsAt0 m c t.val t.isLt).1) i = rows m c i := by
  have ht : t.val < 8 := t.isLt
  rw [Blocks.out_last m c t h, ← ix2_eta i]
  refine (Pay.pay4_at _ _ _ _).trans (congrArg (fun l => Spec.scores l (i 1)) (funext fun k => ?_))
  exact Logits.logit_at m c t ((show t.val + 1 = 8 by omega).trans N_0.symm) (i 0) k

/-- The launch's output array after the run. -/
theorem final (c : Dev nD) : (dats m 0 c).arrAt 5 cfg0.N = rows m c := by
  refine (dats m 0 c).arrAt_eq_of_covers 5 _ (by decide +kernel) fun t hf y => ?_
  have h7 : t.val % 8 = 7 := (flush0_5 t).mp hf
  blk_simp
  rw [after0_5]
  refine (out_at m c t h7 y).trans (congrArg (rows m c) ?_)
  funext a
  apply Fin.ext
  fin_cases a <;> blk_simp [Reads.idx t]

/-- The program's result after the host lines that follow the launch. -/
theorem tail (c : Dev nD) :
    Pipeline.afterTail₀ cfgs (dats m) 0 (V0 m) [hostOps1] c main_v21
      = Spec.result (Logits.X m c) (Logits.W m c) (Logits.B m c) (Logits.W2 m c) (Logits.B2 m c) := by
  simp only [Pipeline.afterTail₀, hostOps1, List.flatten_cons, List.flatten_nil, List.append_nil]
  after_results
  have h : Pipeline.withArrays (cfgs 0).spec c (V0 m c) (fun w => (dats m 0 c).arrAt w (cfgs 0).N) (Proc.tc.devRef main_v19)
      = rows m c :=
    (Pipeline.withArrays_arr spec0 launch0.win.arr_inj c _ _ 5).trans (final m c)
  rw [h]
  funext i
  idx_vars i
  pointwise [rows, Spec.result]
  refine congrArg (fun l => Spec.scores l i1) ?_
  congr 1 <;> apply Fin.ext <;> dsimp only <;> omega

/-- The kernel's run: the result is the scores of every pixel, and the arguments end as launched. -/
theorem run (ρ : Dev nD → PrngReg) : θ_run defs (onTc (τ := τ) (main (F := Ideal))) ⟨m, fun _ => 0, ρ⟩ fun r => ∀ c : Dev nD,
      r.2.mem ((c.tc : Thread nD τ).loc main_v21)
          = Spec.result (Logits.X m c) (Logits.W m c) (Logits.B m c) (Logits.W2 m c) (Logits.B2 m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) := by
  run_from run_main m ρ
  · exact tail m c
  · exact W_main_arg0 m (dats m) c
  · exact W_main_arg1 m (dats m) c
  · exact W_main_arg2 m (dats m) c
  · exact W_main_arg3 m (dats m) c
  · exact W_main_arg4 m (dats m) c

end Cert.KernelIdeal.Final

end
-- ==== Proof.Reference.lean ====
module

public import proofs.«01_k».proof.Proof.Gen.ReferenceIdeal.Read
public import proofs.«01_k».proof.Proof.Result

@[expose] public section

set_option maxRecDepth 16384

noncomputable section

/-! The reference's result, read stage by stage. -/

namespace Cert.ReferenceIdeal.Stages

open Cert.ReferenceIdeal Cert.ReferenceIdeal.Gen Cert.ReferenceIdeal.Read Idealize.ShloMosaic

variable (x0 : FVec Ideal S1x768x32x32 .f32) (x1 : FVec Ideal S4x256x768x3x3 .f32) (x2 : FVec Ideal S4x256 .f32)
  (x3 : FVec Ideal S4x1x256x1x1 .f32) (x4 : FVec Ideal S4x1 .f32)

/-- A truth value converted to a number. -/
theorem bit_at (q : Prop) [Decidable q] :
    (FloatOps.uitofp FTy.f32 (BitVec.ofBool (decide q)) : Ideal .f32) = if q then (1 : EReal) else 0 := by
  by_cases h : q
  · rw [decide_eq_true h, if_pos h]
    show (((1#1).toNat : ℝ) : EReal) = 1
    simp
  · rw [decide_eq_false h, if_neg h]
    show (((0#1).toNat : ℝ) : EReal) = 0
    simp

/-- The normalised image of the reference. -/
theorem unit_at (c : Fin 768) (y z : Fin 32) :
    val_main_v8 (F := Ideal) x0 (ix3 c y z) = Spec.unit (Spec.feat x0) c y z := by
  pointwise [val_main_v8, val_main_v7, val_main_v6, val_main_v5, val_main_v4, val_main_v3, val_main_v2, val_main_v1,
    val_main_v0, val_main_cst, val_main_cst_0]
  rfl

/-- The padded image of the reference. -/
theorem padded_at (c : Fin 768) (Y Z : Fin 34) :
    val_main_v9 (F := Ideal) x0 (ix3 c Y Z) = Spec.padded (Spec.feat x0) c Y.val Z.val := by
  pointwise [val_main_v9, val_main_call0_v0, val_main_c]
  unfold Spec.padded
  by_cases h : (1 ≤ Y.val ∧ Y.val ≤ 32) ∧ (1 ≤ Z.val ∧ Z.val ≤ 32)
  · rw [dif_pos h, dif_pos (by omega), unit_at]
  · rw [dif_neg h, dif_neg (by omega)]
    show (((0#32).toInt : ℝ) : EReal) = 0
    simp

/-- The convolution of the reference: nine taps, one after the other. -/
theorem conv_at (k : Fin 4) (o : Fin 256) (y z : Fin 32) :
    val_main_v55 (F := Ideal) x0 x1 (ix4 k o y z) = Spec.conv (Spec.feat x0) (Spec.weights x1) k o y z := by
  pointwise [val_main_v55, val_main_v54, val_main_v53, val_main_v52, val_main_v51,
    val_main_v50, val_main_v49, val_main_v48, val_main_v47, val_main_v46,
    val_main_v45, val_main_v44, val_main_v43, val_main_v42, val_main_v41,
    val_main_v40, val_main_v39, val_main_v38, val_main_v37, val_main_v36,
    val_main_v35, val_main_v34, val_main_v33, val_main_v32, val_main_v31,
    val_main_v30, val_main_v29, val_main_v28, val_main_v27, val_main_v26,
    val_main_v25, val_main_v24, val_main_v23, val_main_v22, val_main_v21,
    val_main_v20, val_main_v19, val_main_v18, val_main_v17, val_main_v16,
    val_main_v15, val_main_v14, val_main_v13, val_main_v12, val_main_v11, val_main_v10, val_main_cst_1]
  unfold Spec.conv Spec.weights
  simp only [padded_at, Nat.add_comm 1, Nat.add_comm 2, Fin.sum_univ_three, ← add_assoc]
  rfl

/-- The logits of the reference. -/
theorem logit_at (k : Fin 4) (y z : Fin 32) :
    val_main_v65 (F := Ideal) x0 x1 x2 x3 x4 (ix4 k 0 y z) = Spec.logits x0 x1 x2 x3 x4 y z k := by
  pointwise [val_main_v65, val_main_v64, val_main_v63, val_main_v62, val_main_v61, val_main_v60, val_main_v59,
    val_main_v58, val_main_v57, val_main_v56, val_main_call1_v0, val_main_call1_cst]
  unfold Spec.logits Spec.logit Spec.hidden
  simp only [conv_at]
  rfl

/-- The probabilities of the reference. -/
theorem prob_at (k : Fin 4) (y z : Fin 32) :
    val_main_v71 (F := Ideal) x0 x1 x2 x3 x4 (ix4 k 0 y z) = Ideal.logistic (Spec.logits x0 x1 x2 x3 x4 y z k) := by
  pointwise [val_main_v71, val_main_v70, val_main_v69, val_main_v68, val_main_v67, val_main_v66, val_main_cst_2, val_main_cst_3]
  rw [logit_at]
  rfl

/-- The zero-or-one decisions of the reference. -/
theorem decision_at (k : Fin 4) (y z : Fin 32) :
    val_main_v74 (F := Ideal) x0 x1 x2 x3 x4 (ix4 k 0 y z)
      = if (((1 / 2 : ℝ)) : EReal) < Ideal.logistic (Spec.logits x0 x1 x2 x3 x4 y z k) then (1 : EReal) else 0 := by
  pointwise [val_main_v74, val_main_v73, val_main_v72, val_main_cst_4]
  rw [prob_at, bit_at, Spec.ofBits_half]

/-- The background of the reference. -/
theorem background_at (y z : Fin 32) :
    val_main_v88 (F := Ideal) x0 x1 x2 x3 x4 (ix4 0 0 y z) = Spec.background (Spec.logits x0 x1 x2 x3 x4 y z) := by
  pointwise [val_main_v88, val_main_v87, val_main_v86, val_main_v85, val_main_v84, val_main_v83, val_main_v82, val_main_v81,
    val_main_v80, val_main_v79, val_main_v78, val_main_v77, val_main_v76, val_main_v75, val_main_cst_5, val_main_cst_6,
    val_main_cst_7, val_main_cst_8, val_main_cst_9]
  simp only [prob_at, decision_at, bit_at, Spec.ofBits_bot]
  refine Eq.trans ?_ (Spec.background_mul (Spec.logits x0 x1 x2 x3 x4 y z))
  exact congrArg (fun b : EReal => _ * (1 - b)) (if_congr (Spec.zero_lt_decisions (Spec.logits x0 x1 x2 x3 x4 y z)) rfl rfl)

/-- The scores of the reference. -/
theorem result_eq : val_main_v89 (F := Ideal) x0 x1 x2 x3 x4 = Spec.result x0 x1 x2 x3 x4 := by
  funext i
  idx_vars i
  pointwise [val_main_v89, val_main_v75]
  by_cases h : i1.val = 0
  · obtain rfl : i1 = 0 := Fin.ext h
    rw [dif_pos (by omega)]
    exact (background_at x0 x1 x2 x3 x4 i2 i3).trans (Spec.scores_first (Spec.logits x0 x1 x2 x3 x4 i2 i3) 0 h).symm
  · rw [dif_neg (by omega), prob_at]
    exact (Spec.scores_later (Spec.logits x0 x1 x2 x3 x4 i2 i3) i1 h).symm

end Cert.ReferenceIdeal.Stages

end
-- ==== Proof.Algebraic.lean ====
module

public import proofs.«01_k».proof.Defs
public import proofs.«01_k».proof.Proof.Final
public import proofs.«01_k».proof.Proof.Reference

@[expose] public section

set_option maxRecDepth 16384

noncomputable section

/-! The value claim: the two runs side by side. -/

namespace Cert.Proof

open Idealize.ShloMosaic Idealize.SL.Sem

set_option maxHeartbeats 1600000 in
/-- Over exact values the kernel and the reference end with the same result. -/
theorem algebraic : Cert.algebraic_KernelIdeal_ReferenceIdeal := by
  pair_intro
  · run_from Cert.KernelIdeal.Final.run m g
  · run_from Cert.ReferenceIdeal.Value.run m' g'
    rw [Cert.ReferenceIdeal.Read.val_main_v89_eq, Cert.ReferenceIdeal.Stages.result_eq]
    obtain ⟨h0, h1, h2, h3, h4⟩ := hagree c
    exact congr (congr (congr (congrArg₂ Cert.Spec.result h0 h1) h2) h3) h4

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The reference ends with its arguments unchanged; it declares no semaphore, so every counter is zero. -/
theorem reference_ends : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel, its exact-value twin and the reference run to the end with their arguments unchanged and every counter at
zero; the twin keeps the kernel's program; and over exact values the kernel's result is the reference's. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_ends, trivial, algebraic⟩

end Cert.Proof

end
